-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x4096 : Shape := ⟨2, ![4096, 4096]⟩
abbrev S512x4096 : Shape := ⟨2, ![512, 4096]⟩
abbrev S256x256 : Shape := ⟨2, ![256, 256]⟩
abbrev S512x1 : Shape := ⟨2, ![512, 1]⟩
abbrev S512x256 : Shape := ⟨2, ![512, 256]⟩
abbrev S512 : Shape := ⟨1, ![512]⟩

abbrev nBuf : Space → Nat
  | .hbm => 2
  | .vmem => 4
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S4096x4096 : Shape := ⟨2, ![4096, 4096]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S_, .f32⟩
  | .hbm, ⟨2, _⟩ => ⟨S_, .f32⟩
  | .hbm, ⟨3, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.PrefixSum.lean ====
/- Prefix sums of a finite sequence of extended reals: how a prefix grows by a whole chunk, and how it grows by the
   part of a chunk that a 0/1 mask lets through. No program is mentioned here. -/
module

public import Idealize.ShloMosaic.PureOps.Ideal
public import Idealize.ShloMosaic.Lib.Pointwise

@[expose] public section

noncomputable section

namespace Cert.PrefixSum

/-- Entry `k` of the sequence, and zero from its end on. -/
def entry {N : ℕ} (x : Fin N → EReal) (k : ℕ) : EReal := if h : k < N then x ⟨k, h⟩ else 0

theorem entry_of_lt {N : ℕ} (x : Fin N → EReal) {k : ℕ} (h : k < N) : entry x k = x ⟨k, h⟩ := dif_pos h

/-- The sum of the first `n` entries. -/
def prefixSum {N : ℕ} (x : Fin N → EReal) (n : ℕ) : EReal := ∑ k ∈ Finset.range n, entry x k

theorem prefixSum_zero {N : ℕ} (x : Fin N → EReal) : prefixSum x 0 = 0 := Finset.sum_range_zero _

/-- A prefix and the chunk of `b` entries behind it make the prefix that is `b` longer. -/
theorem prefixSum_add_chunk {N b : ℕ} (x : Fin N → EReal) (n : ℕ) (y : Fin b → EReal) (hy : ∀ k, y k = entry x (n + k.val)) :
    prefixSum x n + ∑ k, y k = prefixSum x (n + b) := by
  have h : ∑ k, y k = ∑ k ∈ Finset.range b, entry x (n + k) := by
    rw [← Fin.sum_univ_eq_sum_range (fun k => entry x (n + k))]
    exact Finset.sum_congr rfl fun k _ => hy k
  rw [h]
  exact (Finset.sum_range_add _ n b).symm

/-- A sum over `b` positions in which a 0/1 factor keeps those up to `q` is the sum over the first `q + 1`. -/
theorem sum_masked {b : ℕ} (y : ℕ → EReal) (q : Fin b) :
    ∑ k : Fin b, y k.val * (if k.val ≤ q.val then 1 else 0) = ∑ k ∈ Finset.range (q.val + 1), y k := by
  rw [Fin.sum_univ_eq_sum_range (fun k => y k * (if k ≤ q.val then 1 else 0)) b]
  obtain ⟨q, hq⟩ := q
  show ∑ k ∈ Finset.range b, y k * (if k ≤ q then (1 : EReal) else 0) = ∑ k ∈ Finset.range (q + 1), y k
  obtain ⟨d, hd⟩ : ∃ d, b = (q + 1) + d := ⟨b - (q + 1), by omega⟩
  rw [hd, Finset.sum_range_add]
  have h1 : ∑ k ∈ Finset.range (q + 1), y k * (if k ≤ q then (1 : EReal) else 0) = ∑ k ∈ Finset.range (q + 1), y k :=
    Finset.sum_congr rfl fun k hk => by
      rw [if_pos (by have := Finset.mem_range.1 hk; omega), mul_one]
  have h2 : ∑ k ∈ Finset.range d, y (q + 1 + k) * (if q + 1 + k ≤ q then (1 : EReal) else 0) = 0 :=
    Finset.sum_eq_zero fun k _ => by rw [if_neg (by omega), mul_zero]
  rw [h1, h2, add_zero]

/-- A prefix and the part of the next chunk up to its position `q`, picked out by a 0/1 factor: the prefix that ends
    with that position. -/
theorem prefixSum_add_masked {N b : ℕ} (x : Fin N → EReal) (n : ℕ) (y : Fin b → EReal) (hy : ∀ k, y k = entry x (n + k.val)) (q : Fin b) :
    prefixSum x n + ∑ k : Fin b, y k * (if k.val ≤ q.val then 1 else 0) = prefixSum x (n + q.val + 1) := by
  rw [Finset.sum_congr rfl fun k _ => by rw [hy k], sum_masked (fun k => entry x (n + k)) q]
  exact (Finset.sum_range_add _ n (q.val + 1)).symm

/-- A window as long as the sequence, which ends at position `j` and hangs over the sequence's start, where it reads
    zeros, sums the prefix that ends with `j`. -/
theorem sum_window {N : ℕ} (x : Fin (N + 1) → EReal) (j : Fin (N + 1)) :
    ∑ w : Fin (N + 1), (if N ≤ j.val + w.val then entry x (j.val + w.val - N) else 0) = prefixSum x (j.val + 1) := by
  rw [Fin.sum_univ_eq_sum_range (fun w => if N ≤ j.val + w then entry x (j.val + w - N) else 0) (N + 1)]
  obtain ⟨j, hj⟩ := j
  show ∑ w ∈ Finset.range (N + 1), (if N ≤ j + w then entry x (j + w - N) else 0) = ∑ k ∈ Finset.range (j + 1), entry x k
  generalize entry x = y
  obtain ⟨d, hd⟩ : ∃ d, N = j + d := ⟨N - j, by omega⟩
  rw [show N + 1 = d + (j + 1) by omega, Finset.sum_range_add]
  have h1 : ∑ w ∈ Finset.range d, (if N ≤ j + w then y (j + w - N) else 0) = 0 :=
    Finset.sum_eq_zero fun w hw => if_neg (by have := Finset.mem_range.1 hw; omega)
  rw [h1, zero_add]
  exact Finset.sum_congr rfl fun w _ => by rw [if_pos (by omega), show j + (d + w) - N = w by omega]

/-- Adding a list's values one by one is adding their sum. -/
theorem foldl_add {ι : Type} (g : ι → EReal) (l : List ι) (v : EReal) : l.foldl (fun r i => r + g i) v = v + (l.map g).sum := by
  induction l generalizing v with
  | nil => simp
  | cons i l ih => rw [List.foldl_cons, ih, List.map_cons, List.sum_cons, add_assoc]

end Cert.PrefixSum

end
-- ==== Proof.Tile.lean ====
/- What the kernel stores in one tile of 256 columns of its block of 512 rows, for every tile at once: the running sum of
   each row from the block's first column up to the tile's column. The sum inside the tile is a product with a triangular
   matrix of zeros and ones, and the sum of the tiles on its left is carried along. -/
module

public import proofs.«01_k».proof.Proof.PrefixSum
public import proofs.«01_k».proof.Proof.Gen.KernelIdeal.Frame
public import Idealize.ShloMosaic.Lib.Pipeline.ValueKit

@[expose] public section

set_option maxRecDepth 16384

noncomputable section

namespace Cert.KernelIdeal.Scan

open Cert.KernelIdeal Cert.KernelIdeal.Gen Cert.PrefixSum Idealize.ShloMosaic

/-- Tile `c` lies inside the block's columns. -/
theorem slices_tile : ∀ c : Fin 16, S512x4096.Slices ![0, 256 * c.val] S512x256 := by decide

section Operations

variable {F : FTy → Type} [FloatOps F]

/-- The sum of each row over the columns of tile `c`, as a column. -/
def tileSum (x : Vec F S512x4096 .f32) (c : Fin 16) : FVec F S512x1 .f32 :=
  shapeCast S512x1 (multiReduction .add [1] S512 (extractStridedSlice S512x256 ![0, 256 * c.val] x (slices_tile c)) 0x00000000#32
    reduces_S512x256_S512 (.inl rfl) rfl) shapeCasts_S512_S512x1

/-- The carried sum of each row over the first `n` tiles: zero, and one tile's sum more at each step. -/
def carry (x : Vec F S512x4096 .f32) : (n : ℕ) → n ≤ 16 → FVec F S512x1 .f32
  | 0, _ => k0_pay10
  | n + 1, h => addf (carry x n (by omega)) (tileSum x ⟨n, by omega⟩)

/-- What is stored in tile `c`: the tile times the triangular matrix, plus the sum carried from its left. -/
def tile (x : Vec F S512x4096 .f32) (c : Fin 16) : FVec F S512x256 .f32 :=
  addf (matmul dot_S512x256_S256x256_S512x256_1_0_0_1_n_n none (extractStridedSlice S512x256 ![0, 256 * c.val] (k0_pay9 x) (slices_tile c))
    k0_pay8 (constant S512x256 .f32 0x00000000#32)) (broadcastTo S512x256 (carry x c.val (by omega)) broadcasts_S512x1_S512x256)

end Operations

/-- Row `r` of a block. -/
def row (x : Vec Ideal S512x4096 .f32) (r : Fin 512) : Fin 4096 → EReal := fun k => x (ix2 r k)

/-- The triangular matrix at an index: one on and above the diagonal, zero below. -/
theorem triangle_apply (k q : Fin 256) : k0_pay8 (F := Ideal) (ix2 k q) = if k.val ≤ q.val then (1 : EReal) else 0 := by
  pointwise [k0_pay8]
  rw [WordCmp.cmpi_sle_ofNat (by omega) (by omega)]
  by_cases h : k.val ≤ q.val
  · rw [if_pos h, decide_eq_true h]
    show (((BitVec.setWidth 32 (BitVec.ofBool true)).toInt : ℝ) : EReal) = 1
    rw [show (BitVec.setWidth 32 (BitVec.ofBool true)).toInt = 1 by decide]
    norm_num
  · rw [if_neg h, decide_eq_false h]
    show (((BitVec.setWidth 32 (BitVec.ofBool false)).toInt : ℝ) : EReal) = 0
    rw [show (BitVec.setWidth 32 (BitVec.ofBool false)).toInt = 0 by decide]
    norm_num

/-- The sum over a tile's columns, at a row. -/
theorem tileSum_apply (x : Vec Ideal S512x4096 .f32) (c : Fin 16) (r : Fin 512) (z : Fin 1) :
    tileSum x c (ix2 r z) = ∑ k : Fin 256, x (ix2 r ⟨256 * c.val + k.val, by omega⟩) := by
  pointwise [tileSum]

/-- Column `k` of tile `c` is column `256 c + k` of the block. -/
theorem row_tile (x : Vec Ideal S512x4096 .f32) (c : Fin 16) (r : Fin 512) (k : Fin 256) :
    x (ix2 r ⟨256 * c.val + k.val, by omega⟩) = entry (row x r) (256 * c.val + k.val) :=
  (entry_of_lt (row x r) (by omega)).symm

/-- The carried sum at a row is the sum of the row's first `256 n` entries. -/
theorem carry_apply (x : Vec Ideal S512x4096 .f32) (r : Fin 512) (z : Fin 1) :
    ∀ (n : ℕ) (h : n ≤ 16), carry x n h (ix2 r z) = prefixSum (row x r) (256 * n)
  | 0, _ => by
    unfold carry
    pointwise [k0_pay10]
    exact (prefixSum_zero (row x r)).symm
  | n + 1, h => by
    unfold carry
    pointwise
    rw [carry_apply x r z n (by omega), tileSum_apply]
    exact prefixSum_add_chunk (row x r) (256 * n) _ fun k => row_tile x ⟨n, by omega⟩ r k

/-- WHAT A TILE HOLDS AT AN INDEX: the sum of row `r` of the block up to and including the tile's column `q`. -/
theorem tile_apply (x : Vec Ideal S512x4096 .f32) (c : Fin 16) (r : Fin 512) (q : Fin 256) :
    tile x c (ix2 r q) = prefixSum (row x r) (256 * c.val + q.val + 1) := by
  pointwise [tile, k0_pay9]
  rw [carry_apply, add_comm, Finset.sum_congr rfl fun k _ => by rw [triangle_apply]]
  exact prefixSum_add_masked (row x r) (256 * c.val) _ (fun k => row_tile x c r k) q

end Cert.KernelIdeal.Scan

end
-- ==== Proof.Reference.lean ====
/- What the reference computes: jnp's cumulative sum along the rows, which prints as a sum over a window of the whole
   row's length padded on the left, holds at column `j` of row `r` the sum of that row's entries up to and including `j`. -/
module

public import proofs.«01_k».proof.Proof.PrefixSum
public import proofs.«01_k».proof.Proof.Gen.ReferenceIdeal

@[expose] public section

set_option maxRecDepth 16384

noncomputable section

namespace Cert.ReferenceIdeal.Scan

open Cert.ReferenceIdeal Cert.ReferenceIdeal.Gen Cert.PrefixSum Idealize.ShloMosaic

/-- One position of the window at `(r, j)`: padding while it hangs over the row's start, an entry of row `r` afterwards. -/
theorem window_at {R N : ℕ} (x : (⟨2, ![R, N + 1]⟩ : Shape).Idx → EReal) (r : Fin R) (j : Fin (N + 1)) (a : Fin 1) (w : Fin (N + 1))
    (p lo : Fin 2 → ℕ) (h0 : p 0 = r.val * 1 + a.val) (h1 : p 1 = j.val * 1 + w.val) (hlo0 : lo 0 = 0) (hlo1 : lo 1 = N)
    {_ : Decidable (∀ b : Fin 2, lo b ≤ p b ∧ p b - lo b < (⟨2, ![R, N + 1]⟩ : Shape).size b)} :
    (if hin : ∀ b : Fin 2, lo b ≤ p b ∧ p b - lo b < (⟨2, ![R, N + 1]⟩ : Shape).size b then x (fun b => ⟨p b - lo b, (hin b).2⟩) else (0 : EReal))
      = if N ≤ j.val + w.val then entry (fun k : Fin (N + 1) => x (ix2 r k)) (j.val + w.val - N) else 0 := by
  have ha := a.isLt
  have hj := j.isLt
  have hw := w.isLt
  have hr := r.isLt
  by_cases h : N ≤ j.val + w.val
  · have hin : ∀ b : Fin 2, lo b ≤ p b ∧ p b - lo b < (⟨2, ![R, N + 1]⟩ : Shape).size b := fun b => by
      match b with
      | ⟨0, _⟩ => show lo 0 ≤ p 0 ∧ p 0 - lo 0 < R; omega
      | ⟨1, _⟩ => show lo 1 ≤ p 1 ∧ p 1 - lo 1 < N + 1; omega
    rw [dif_pos hin, if_pos h, entry_of_lt _ (show j.val + w.val - N < N + 1 by omega)]
    refine congrArg x (funext fun b => Fin.ext ?_)
    match b with
    | ⟨0, _⟩ => show p 0 - lo 0 = r.val; omega
    | ⟨1, _⟩ => show p 1 - lo 1 = j.val + w.val - N; omega
  · rw [if_neg h, dif_neg fun hin => ?_]
    have := (hin 1).1
    omega

/-- A sum over a window of one row's length, padded on the left by one less than that, is the running sum of each row. -/
theorem reduceWindow_row {R N : ℕ} (x : (⟨2, ![R, N + 1]⟩ : Shape).Idx → EReal)
    (h : (⟨2, ![R, N + 1]⟩ : Shape).ReduceWindows ![1, N + 1] ![1, 1] ![0, N] ![0, 0] ⟨2, ![R, N + 1]⟩)
    (hu : 0 < (⟨0, ![]⟩ : Shape).numel) (r : Fin R) (j : Fin (N + 1)) :
    Host.reduceWindow (· + ·) ![1, N + 1] ![1, 1] ![0, N] ![0, 0] x (fun _ : (⟨0, ![]⟩ : Shape).Idx => (0 : EReal)) h hu (ix2 r j)
      = prefixSum (fun k : Fin (N + 1) => x (ix2 r k)) (j.val + 1) := by
  unfold Host.reduceWindow
  dsimp only
  rw [foldl_add, zero_add, ← Fin.sum_univ_def]
  refine (Finset.sum_congr rfl fun n _ => window_at x r j ((⟨2, ![1, N + 1]⟩ : Shape).rowMajor.symm n 0)
    ((⟨2, ![1, N + 1]⟩ : Shape).rowMajor.symm n 1)
    (fun b => (ix2 r j (b.cast h.1.symm)).val * (![1, 1] : Fin 2 → ℕ) b + ((⟨2, ![1, N + 1]⟩ : Shape).rowMajor.symm n b).val)
    ![0, N] rfl rfl rfl rfl).trans ?_
  refine (Equiv.sum_comp (⟨2, ![1, N + 1]⟩ : Shape).rowMajor.symm fun q : (⟨2, ![1, N + 1]⟩ : Shape).Idx =>
    if N ≤ j.val + (q 1).val then entry (fun k : Fin (N + 1) => x (ix2 r k)) (j.val + (q 1).val - N) else 0).trans ?_
  rw [sum_idx2, Fin.sum_univ_one]
  exact sum_window (fun k : Fin (N + 1) => x (ix2 r k)) j

/-- The reference's result as the composition of its operations. -/
def cumsum (X : FVec Ideal S4096x4096 .f32) : FVec Ideal S4096x4096 .f32 :=
  Host.reduceWindowAdd ![1, 4096] ![1, 1] ![0, 4095] ![0, 0] X (broadcastInDim S_ ![] bcast_S_S_ (constant S_ .f32 0x00000000#32))
    reduceWindows_S4096x4096_S4096x4096_w1s1p0_0_w4096s1p4095_0 h_S_

/-- THE REFERENCE AT AN INDEX: the sum of row `r` up to and including column `j`. -/
theorem cumsum_apply (X : FVec Ideal S4096x4096 .f32) (r j : Fin 4096) :
    cumsum X (ix2 r j) = prefixSum (fun k : Fin 4096 => X (ix2 r k)) (j.val + 1) := by
  have hz : ∀ i, (broadcastInDim S_ ![] bcast_S_S_ (constant (F := Ideal) S_ .f32 0x00000000#32)) i = (0 : EReal) := fun i => by
    pointwise
  unfold cumsum Host.reduceWindowAdd
  rw [Ideal.hostReduceWindowAdd_def, hz]
  exact reduceWindow_row (N := 4095) X _ _ r j

end Cert.ReferenceIdeal.Scan

end
-- ==== Proof.Array.lean ====
/- The kernel's result as one function of its argument: its sixteen stores into a block are one family of tiles, so a block
   holds the running sums of its rows, and the eight blocks of rows together are the reference's array. -/
module

public import proofs.«01_k».proof.Proof.Tile
public import proofs.«01_k».proof.Proof.Reference
public import proofs.«01_k».proof.Proof.Gen.KernelIdeal.Value

@[expose] public section

set_option maxRecDepth 16384

noncomputable section

namespace Cert.KernelIdeal.Scan

open Cert.KernelIdeal Cert.KernelIdeal.Gen Cert.PrefixSum Idealize.ShloMosaic Idealize.ShloMosaic.TcCoe Idealize.SL.Sem
open Idealize.ShloMosaic.Pipeline (Dat)

/-- Tile `15 - k`, which the `k`-th store from the last writes, lies inside the block. -/
theorem inb_tile : ∀ (k : Fin 16) (a : Fin S512x4096.rank),
    (![0, 256 * (15 - k.val)] : Fin S512x4096.rank → ℕ) a + S512x256.size a ≤ S512x4096.size a := by decide

/-- The body's stores, last first, are the family of tiles. -/
theorem out_eq {F : FTy → Type} [FloatOps F] (x : Vec F S512x4096 .f32) :
    out0_1 x = View.canon (List.ofFn fun k : Fin 16 => (⟨Rect.unit (s := S512x4096) ![0, 256 * (15 - k.val)] S512x256.size (inb_tile k),
      tile (View.ld x r0_0) ⟨15 - k.val, by omega⟩⟩ : View.Piece (Elt F) S512x4096 .f32)) := rfl

/-- WHAT THE BODY LEAVES IN ITS BLOCK: the running sum of each row of the block it loads. -/
theorem out_apply (x : Vec Ideal S512x4096 .f32) (r : Fin 512) (j : Fin 4096) :
    out0_1 x (ix2 r j) = prefixSum (row x r) (j.val + 1) := by
  have hld : View.ld x r0_0 = x := View.ld_unit_zero (by decide) _ x
  rw [out_eq, hld]
  refine View.canon_ofFn_unit_eq_of_forall (Val := Elt Ideal) (S := S512x4096) (e := .f32) (fun k : Fin 16 => ![0, 256 * (15 - k.val)]) S512x256.size inb_tile
    (fun k => tile x ⟨15 - k.val, by omega⟩) (ix2 r j) _ ?_ fun k => ?_
  · refine ⟨⟨15 - j.val / 256, by omega⟩, fun a => ?_⟩
    match a with
    | ⟨0, _⟩ => show 0 ≤ r.val ∧ r.val < 0 + 512; omega
    | ⟨1, _⟩ => show 256 * (15 - (15 - j.val / 256)) ≤ j.val ∧ j.val < 256 * (15 - (15 - j.val / 256)) + 256; omega
  · tile_intro q h
    obtain ⟨q0, q1, rfl⟩ : ∃ (q0 : Fin 512) (q1 : Fin 256), q = ix2 q0 q1 := ⟨q 0, q 1, by idx_ext⟩
    obtain rfl : r = q0 := Fin.ext h0
    rw [tile_apply]
    exact congrArg (prefixSum (row x r)) (congrArg (· + 1) h1.symm)

/-- Point `t` works on block `t` of the rows, of the argument and of the result. -/
theorem index_eq : ∀ t : Fin cfg0.N, win0_0.index t = ![t.val, 0] ∧ win0_1.index t = ![t.val, 0] :=
  (by decide +kernel : ∀ t : Fin grid0.N, win0_0.index t = ![t.val, 0] ∧ win0_1.index t = ![t.val, 0])

variable (m : (ℓ : Loc nD τ sig) → Buf (Elt Ideal) ℓ)

/-- THE KERNEL'S RESULT is the reference's cumulative sum of its argument. -/
theorem final (c : Dev nD) :
    (dats m 0 c).arrAt 1 cfg0.N = Cert.ReferenceIdeal.Scan.cumsum (m ((c : Thread nD τ).loc main_arg0)) := by
  refine (dats m 0 c).arrAt_eq_of_covers 1 _ (by decide +kernel) fun t _ y => ?_
  obtain ⟨e0, e1⟩ := index_eq t
  blk_simp
  rw [after0_1]
  obtain ⟨r, j, rfl⟩ : ∃ (r : Fin 512) (j : Fin 4096), y = ix2 r j := ⟨y 0, y 1, by idx_ext⟩
  have ht : t.val < 8 := t.isLt
  have hemb : (win0_1.blk t).view.emb (ix2 r j) = ix2 (⟨t.val * 512 + r.val, by omega⟩ : Fin 4096) j := by
    blk_ext [e1]
  rw [hemb, Cert.ReferenceIdeal.Scan.cumsum_apply, out_apply]
  refine congrArg (fun f => prefixSum f (j.val + 1)) (funext fun k => ?_)
  unfold row
  blk_simp [iblk]
  refine congrArg (m ((c : Thread nD τ).loc main_arg0)) ?_
  blk_ext [e0]

end Cert.KernelIdeal.Scan

end
-- ==== Proof.lean ====
/- The certificate of the running sum along the rows of a 4096 x 4096 matrix. Three frames (the kernel as compiled, the kernel
   over the extended reals, the reference), the idealization, which rewrites nothing, and the equation of the kernel's
   result with the reference's, whose mathematics is in Proof/PrefixSum.lean (sums), Proof/Reference.lean (the reference at an
   index), Proof/Tile.lean (one tile of the kernel) and Proof/Array.lean (its whole result). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Array
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs and leaves its argument as it was; it declares no semaphore, so no counter is left to be other than zero. -/
theorem quiescent_reference : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run m g)

/-- The kernel and the reference end with one array: at each index the sum of the row up to and including the column. -/
theorem algebraic : Cert.algebraic_KernelIdeal_ReferenceIdeal (hKernelIdeal := Cert.KernelIdeal.Gen.facts)
    (hReferenceIdeal := Cert.ReferenceIdeal.Gen.facts) := fun m g m' g' _ hagree => by
  refine ⟨fun c => Cert.ReferenceIdeal.Scan.cumsum (m ((c.tc : Thread Cert.KernelIdeal.nD Cert.KernelIdeal.τ).loc Cert.KernelIdeal.main_arg0)), ?_, ?_⟩
  · exact (θ_run _ _ _).mono (fun r h c => ⟨(h c).1.trans (Cert.KernelIdeal.Scan.final m c), (h c).2⟩) (Cert.KernelIdeal.Value.run_blocks m g)
  · refine (θ_run _ _ _).mono (fun r h c => ⟨(h c).1.trans ?_, (h c).2⟩) (Cert.ReferenceIdeal.Value.run m' g')
    exact congrArg Cert.ReferenceIdeal.Scan.cumsum (hagree c)

/-- Everything this certificate claims. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, quiescent_reference, trivial, algebraic⟩

end Cert.Proof

end
